-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x8192 : Shape := ⟨3, ![12, 2048, 8192]⟩
abbrev S8192 : Shape := ⟨1, ![8192]⟩
abbrev S24576x8192 : Shape := ⟨2, ![24576, 8192]⟩
abbrev S1x8192 : Shape := ⟨2, ![1, 8192]⟩
abbrev S24576x64 : Shape := ⟨2, ![24576, 64]⟩
abbrev S24576x128 : Shape := ⟨2, ![24576, 128]⟩
abbrev S64x8192 : Shape := ⟨2, ![64, 8192]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S1x128 : Shape := ⟨2, ![1, 128]⟩

abbrev nBuf : Space → Nat
  | .hbm => 10
  | .vmem => 12
  | .smem => 0
  | _ => 0

abbrev bufTy : (tb : Table) → Fin (tcTables nBuf tb) → BufTy
  | .hbm, ⟨0, _⟩ => ⟨S12x2048x8192, .bf16⟩
  | .hbm, ⟨1, _⟩ => ⟨S8192, .f32⟩
  | .hbm, ⟨2, _⟩ => ⟨S8192, .f32⟩
  | .hbm, ⟨3, _⟩ => ⟨S24576x8192, .bf16⟩
  | .hbm, ⟨4, _⟩ => ⟨S1x8192, .f32⟩
  | .hbm, ⟨5, _⟩ => ⟨S1x8192, .f32⟩
  | .hbm, ⟨6, _⟩ => ⟨S24576x8192, .i8⟩
  | .hbm, ⟨7, _⟩ => ⟨S24576x64, .f32⟩
  | .hbm, ⟨8, _⟩ => ⟨S24576x64, .i32⟩
  | .hbm, ⟨9, _⟩ => ⟨S24576x128, .i32⟩
  | .local _ .vmem, ⟨0, _⟩ => ⟨S64x8192, .bf16⟩
  | .local _ .vmem, ⟨1, _⟩ => ⟨S64x8192, .bf16⟩
  | .local _ .vmem, ⟨2, _⟩ => ⟨S1x8192, .f32⟩
  | .local _ .vmem, ⟨3, _⟩ => ⟨S1x8192, .f32⟩
  | .local _ .vmem, ⟨4, _⟩ => ⟨S64x8192, .i8⟩
  | .local _ .vmem, ⟨5, _⟩ => ⟨S64x8192, .i8⟩
  | .local _ .vmem, ⟨6, _⟩ => ⟨S64x64, .f32⟩
  | .local _ .vmem, ⟨7, _⟩ => ⟨S64x64, .f32⟩
  | .local _ .vmem, ⟨8, _⟩ => ⟨S64x64, .i32⟩
  | .local _ .vmem, ⟨9, _⟩ => ⟨S64x64, .i32⟩
  | .local _ .vmem, ⟨10, _⟩ => ⟨S64x128, .i32⟩
  | .local _ .vmem, ⟨11, _⟩ => ⟨S64x128, .i32⟩
  | _, _ => ⟨S12x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![384], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S12x2048x8192 : Shape := ⟨3, ![12, 2048, 8192]⟩
abbrev S8192 : Shape := ⟨1, ![8192]⟩
abbrev S_ : Shape := ⟨0, ![]⟩
abbrev S12x2048 : Shape := ⟨2, ![12, 2048]⟩
abbrev S12x2048x1 : Shape := ⟨3, ![12, 2048, 1]⟩
abbrev S1x1x8192 : Shape := ⟨3, ![1, 1, 8192]⟩
abbrev S12x2048x64x128 : Shape := ⟨4, ![12, 2048, 64, 128]⟩
abbrev S12x2048x64 : Shape := ⟨3, ![12, 2048, 64]⟩
abbrev S12x2048x64x1 : Shape := ⟨4, ![12, 2048, 64, 1]⟩
abbrev S12x2048x128x64 : Shape := ⟨4, ![12, 2048, 128, 64]⟩
abbrev S12x2048x128 : Shape := ⟨3, ![12, 2048, 128]⟩
abbrev S24576x8192 : Shape := ⟨2, ![24576, 8192]⟩
abbrev S24576x64 : Shape := ⟨2, ![24576, 64]⟩
abbrev S24576x128 : Shape := ⟨2, ![24576, 128]⟩

abbrev nBuf : Space → Nat
  | .hbm => 87
  | .vmem => 0
  | .smem => 0
  | _ => 0

abbrev bufTy : (tb : Table) → Fin (tcTables nBuf tb) → BufTy
  | .hbm, ⟨0, _⟩ => ⟨S12x2048x8192, .bf16⟩
  | .hbm, ⟨1, _⟩ => ⟨S8192, .f32⟩
  | .hbm, ⟨2, _⟩ => ⟨S8192, .f32⟩
  | .hbm, ⟨3, _⟩ => ⟨S12x2048x8192, .f32⟩
  | .hbm, ⟨4, _⟩ => ⟨S_, .f32⟩
  | .hbm, ⟨5, _⟩ => ⟨S12x2048, .f32⟩
  | .hbm, ⟨6, _⟩ => ⟨S12x2048x1, .f32⟩
  | .hbm, ⟨7, _⟩ => ⟨S_, .f32⟩
  | .hbm, ⟨8, _⟩ => ⟨S12x2048x1, .f32⟩
  | .hbm, ⟨9, _⟩ => ⟨S12x2048x1, .f32⟩
  | .hbm, ⟨10, _⟩ => ⟨S12x2048x8192, .f32⟩
  | .hbm, ⟨11, _⟩ => ⟨S12x2048x8192, .f32⟩
  | .hbm, ⟨12, _⟩ => ⟨S12x2048x8192, .f32⟩
  | .hbm, ⟨13, _⟩ => ⟨S_, .f32⟩
  | .hbm, ⟨14, _⟩ => ⟨S12x2048, .f32⟩
  | .hbm, ⟨15, _⟩ => ⟨S12x2048x1, .f32⟩
  | .hbm, ⟨16, _⟩ => ⟨S_, .f32⟩
  | .hbm, ⟨17, _⟩ => ⟨S12x2048x1, .f32⟩
  | .hbm, ⟨18, _⟩ => ⟨S12x2048x1, .f32⟩
  | .hbm, ⟨19, _⟩ => ⟨S_, .f32⟩
  | .hbm, ⟨20, _⟩ => ⟨S12x2048x1, .f32⟩
  | .hbm, ⟨21, _⟩ => ⟨S12x2048x1, .f32⟩
  | .hbm, ⟨22, _⟩ => ⟨S12x2048x1, .f32⟩
  | .hbm, ⟨23, _⟩ => ⟨S12x2048x8192, .f32⟩
  | .hbm, ⟨24, _⟩ => ⟨S12x2048x8192, .f32⟩
  | .hbm, ⟨25, _⟩ => ⟨S1x1x8192, .f32⟩
  | .hbm, ⟨26, _⟩ => ⟨S12x2048x8192, .f32⟩
  | .hbm, ⟨27, _⟩ => ⟨S12x2048x8192, .f32⟩
  | .hbm, ⟨28, _⟩ => ⟨S1x1x8192, .f32⟩
  | .hbm, ⟨29, _⟩ => ⟨S12x2048x8192, .f32⟩
  | .hbm, ⟨30, _⟩ => ⟨S12x2048x8192, .f32⟩
  | .hbm, ⟨31, _⟩ => ⟨S12x2048x64x128, .f32⟩
  | .hbm, ⟨32, _⟩ => ⟨S_, .f32⟩
  | .hbm, ⟨33, _⟩ => ⟨S12x2048x64, .f32⟩
  | .hbm, ⟨34, _⟩ => ⟨S_, .f32⟩
  | .hbm, ⟨35, _⟩ => ⟨S12x2048x64, .f32⟩
  | .hbm, ⟨36, _⟩ => ⟨S12x2048x64, .f32⟩
  | .hbm, ⟨37, _⟩ => ⟨S_, .f32⟩
  | .hbm, ⟨38, _⟩ => ⟨S12x2048x64, .f32⟩
  | .hbm, ⟨39, _⟩ => ⟨S_, .f32⟩
  | .hbm, ⟨40, _⟩ => ⟨S12x2048x64, .f32⟩
  | .hbm, ⟨41, _⟩ => ⟨S12x2048x64, .f32⟩
  | .hbm, ⟨42, _⟩ => ⟨S12x2048x64, .f32⟩
  | .hbm, ⟨43, _⟩ => ⟨S_, .f32⟩
  | .hbm, ⟨44, _⟩ => ⟨S12x2048x64, .f32⟩
  | .hbm, ⟨45, _⟩ => ⟨S12x2048x64, .f32⟩
  | .hbm, ⟨46, _⟩ => ⟨S_, .f32⟩
  | .hbm, ⟨47, _⟩ => ⟨S12x2048x64, .f32⟩
  | .hbm, ⟨48, _⟩ => ⟨S12x2048x64, .i1⟩
  | .hbm, ⟨49, _⟩ => ⟨S_, .f32⟩
  | .hbm, ⟨50, _⟩ => ⟨S_, .f32⟩
  | .hbm, ⟨51, _⟩ => ⟨S12x2048x64, .f32⟩
  | .hbm, ⟨52, _⟩ => ⟨S12x2048x64, .f32⟩
  | .hbm, ⟨53, _⟩ => ⟨S12x2048x64, .f32⟩
  | .hbm, ⟨54, _⟩ => ⟨S12x2048x64, .f32⟩
  | .hbm, ⟨55, _⟩ => ⟨S12x2048x64, .f32⟩
  | .hbm, ⟨56, _⟩ => ⟨S12x2048x64, .i32⟩
  | .hbm, ⟨57, _⟩ => ⟨S12x2048x64x1, .f32⟩
  | .hbm, ⟨58, _⟩ => ⟨S12x2048x64x128, .f32⟩
  | .hbm, ⟨59, _⟩ => ⟨S12x2048x64x128, .f32⟩
  | .hbm, ⟨60, _⟩ => ⟨S12x2048x64x128, .f32⟩
  | .hbm, ⟨61, _⟩ => ⟨S12x2048x64, .f32⟩
  | .hbm, ⟨62, _⟩ => ⟨S12x2048x64x1, .f32⟩
  | .hbm, ⟨63, _⟩ => ⟨S12x2048x64x128, .f32⟩
  | .hbm, ⟨64, _⟩ => ⟨S12x2048x64x128, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S12x2048x64x128, .f32⟩
  | .hbm, ⟨69, _⟩ => ⟨S12x2048x64x128, .f32⟩
  | .hbm, ⟨70, _⟩ => ⟨S_, .f32⟩
  | .hbm, ⟨71, _⟩ => ⟨S12x2048x64x128, .f32⟩
  | .hbm, ⟨72, _⟩ => ⟨S12x2048x64x128, .f32⟩
  | .hbm, ⟨73, _⟩ => ⟨S12x2048x64x128, .i32⟩
  | .hbm, ⟨74, _⟩ => ⟨S12x2048x64x128, .i8⟩
  | .hbm, ⟨75, _⟩ => ⟨S12x2048x8192, .i8⟩
  | .hbm, ⟨76, _⟩ => ⟨S12x2048x8192, .i8⟩
  | .hbm, ⟨77, _⟩ => ⟨S12x2048x64, .f32⟩
  | .hbm, ⟨78, _⟩ => ⟨S12x2048x64, .i32⟩
  | .hbm, ⟨79, _⟩ => ⟨S12x2048x128x64, .i8⟩
  | .hbm, ⟨80, _⟩ => ⟨S12x2048x128x64, .i32⟩
  | .hbm, ⟨81, _⟩ => ⟨S_, .i32⟩
  | .hbm, ⟨82, _⟩ => ⟨S12x2048x128, .i32⟩
  | .hbm, ⟨83, _⟩ => ⟨S24576x8192, .i8⟩
  | .hbm, ⟨84, _⟩ => ⟨S24576x64, .f32⟩
  | .hbm, ⟨85, _⟩ => ⟨S24576x64, .i32⟩
  | .hbm, ⟨86, _⟩ => ⟨S24576x128, .i32⟩
  | _, _ => ⟨S12x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_call0_v0 : Ref sig .tc := ⟨.hbm, 50, rfl⟩
abbrev main_call0_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_cst_12 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v53 : Ref sig .tc := ⟨.hbm, 79, rfl⟩
abbrev main_v54 : Ref sig .tc := ⟨.hbm, 80, rfl⟩
abbrev main_c : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.Group.lean ====
/- One group of 128 channels of one block of 64 rows, as the kernel computes it: the chain of vector operations the kernel
   repeats for each of the 64 groups, written once with the group's first channel `o` as a parameter. -/
module

public import proofs.«01_k».proof.Proof.Gen.KernelIdeal
public import Idealize.ShloMosaic.Lib.Pointwise

@[expose] public section

set_option maxRecDepth 16384

noncomputable section

namespace Cert.Group

open Idealize.ShloMosaic Cert.KernelIdeal Cert.KernelIdeal.Gen

variable {F : FTy → Type} [FloatOps F]

/-- The block's entries minus their row's mean. -/
def dev (x : FVec F S64x8192 .bf16) : FVec F S64x8192 .f32 :=
  subf (extf .f32 (shapeCast S64x8192 x shapeCasts_S64x8192_S64x8192) bitsLt_bf16_f32)
    (broadcastTo S64x8192
      (mulf (shapeCast S64x1 (multiReduction .add [1] S64
          (extf .f32 (shapeCast S64x8192 x shapeCasts_S64x8192_S64x8192) bitsLt_bf16_f32) 0x00000000#32
          reduces_S64x8192_S64 (.inl rfl) rfl) shapeCasts_S64_S64x1)
        (broadcast S64x1 (Scalar.ofBits .f32 0x39000000#32)))
      broadcasts_S64x1_S64x8192)

/-- The reciprocal square root of each row's variance plus epsilon. -/
def rstd (x : FVec F S64x8192 .bf16) : FVec F S64x1 .f32 :=
  rsqrt (addf (mulf (shapeCast S64x1 (multiReduction .add [1] S64 (mulf (dev x) (dev x)) 0x00000000#32
        reduces_S64x8192_S64 (.inl rfl) rfl) shapeCasts_S64_S64x1)
      (broadcast S64x1 (Scalar.ofBits .f32 0x39000000#32)))
    (broadcast S64x1 (Scalar.ofBits .f32 0x3727C5AC#32)))

/-- Which of a group's 128 lanes are in its first half. -/
def half : IVec S64x128 1 :=
  cmpi .slt (iota .tc S64x128 32 [1] iota_S64x128_d1_w32) (broadcast S64x128 64#32)

/-- The normalised values of the group that starts at channel `o`, with the group's 128 weights `g` and offsets `b`. -/
def norm (o : ℕ) (h : S64x8192.Slices ![0, o] S64x128) (d : FVec F S64x8192 .f32) (r : FVec F S64x1 .f32)
    (g b : FVec F S1x128 .f32) : FVec F S64x128 .f32 :=
  addf (mulf (mulf (extractStridedSlice S64x128 ![0, o] d h) (broadcastTo S64x128 r broadcasts_S64x1_S64x128))
      (broadcastTo S64x128 (shapeCast S1x128 g shapeCasts_S1x128_S1x128) broadcasts_S1x128_S64x128))
    (broadcastTo S64x128 (shapeCast S1x128 b shapeCasts_S1x128_S1x128) broadcasts_S1x128_S64x128)

/-- Each row's least value in the group, at most zero. -/
def low (y : FVec F S64x128 .f32) : FVec F S64x1 .f32 :=
  minimumf (shapeCast S64x1 (multiReduction .minimumf [1] S64 y 0x7F800000#32 reduces_S64x128_S64 (.inl rfl) rfl)
    shapeCasts_S64_S64x1) (broadcast S64x1 (Scalar.ofBits .f32 0x00000000#32))

/-- Each row's greatest value in the group, at least zero. -/
def high (y : FVec F S64x128 .f32) : FVec F S64x1 .f32 :=
  maximumf (shapeCast S64x1 (multiReduction .maximumf [1] S64 y 0xFF800000#32 reduces_S64x128_S64 (.inl rfl) rfl)
    shapeCasts_S64_S64x1) (broadcast S64x1 (Scalar.ofBits .f32 0x00000000#32))

/-- The 255th part of each row's range in the group. -/
def step (y : FVec F S64x128 .f32) : FVec F S64x1 .f32 :=
  divf (subf (high y) (low y)) (broadcast S64x1 (Scalar.ofBits .f32 0x437F0000#32))

/-- Each row's scale in the group: the step where it is positive, one otherwise. -/
def scale (y : FVec F S64x128 .f32) : FVec F S64x1 .f32 :=
  select (cmpf .ogt (step y) (broadcast S64x1 (Scalar.ofBits .f32 0x00000000#32))) (step y)
    (broadcast S64x1 (Scalar.ofBits .f32 0x3F800000#32))

/-- Each row's zero point in the group, as a float. -/
def zero (y : FVec F S64x128 .f32) : FVec F S64x1 .f32 :=
  roundeven (divf (subf (broadcast S64x1 (Scalar.ofBits .f32 0x00000000#32)) (low y)) (scale y))

/-- The levels: each value over the scale, rounded, shifted by the zero point and clipped to `[0, 255]`. -/
def level (y : FVec F S64x128 .f32) : FVec F S64x128 .f32 :=
  minimumf (broadcast S64x128 (Scalar.ofBits .f32 0x437F0000#32))
    (maximumf (broadcast S64x128 (Scalar.ofBits .f32 0x00000000#32))
      (addf (roundeven (divf y (broadcastTo S64x128 (scale y) broadcasts_S64x1_S64x128)))
        (broadcastTo S64x128 (zero y) broadcasts_S64x1_S64x128)))

/-- The codes: the levels as 8-bit integers. -/
def code (y : FVec F S64x128 .f32) : IVec S64x128 8 := trunci 8 (fptosi 32 (level y)) natLt_8_32

/-- Each row's sum of levels over the lanes that the mask keeps in their place. -/
def sumKept (k : IVec S64x128 1) (y : FVec F S64x128 .f32) : FVec F S64x1 .f32 :=
  shapeCast S64x1 (multiReduction .add [1] S64
    (select k (level y) (broadcast S64x128 (Scalar.ofBits .f32 0x00000000#32))) 0x00000000#32
    reduces_S64x128_S64 (.inl rfl) rfl) shapeCasts_S64_S64x1

/-- Each row's sum of levels over the lanes that the mask drops. -/
def sumDropped (k : IVec S64x128 1) (y : FVec F S64x128 .f32) : FVec F S64x1 .f32 :=
  shapeCast S64x1 (multiReduction .add [1] S64
    (select k (broadcast S64x128 (Scalar.ofBits .f32 0x00000000#32)) (level y)) 0x00000000#32
    reduces_S64x128_S64 (.inl rfl) rfl) shapeCasts_S64_S64x1

end Cert.Group

end
-- ==== Proof.Row.lean ====
/- The mathematics of one row, over the extended reals: the layer norm of a row of 8192 values, and the quantisation of one
   group of 128 of them to the integers from 0 to 255. No array, block or program appears here. -/
module

public import Idealize.ShloMosaic.Lib.Pointwise

@[expose] public section

noncomputable section

namespace Cert.Row

open Idealize.ShloMosaic

/-! ## The layer norm of a row -/

/-- The mean of a row. -/
def mean (x : Fin 8192 → EReal) : EReal := (∑ k, x k) * ((1 / 8192 : ℝ) : EReal)

/-- An entry minus its row's mean. -/
def dev (x : Fin 8192 → EReal) (k : Fin 8192) : EReal := x k - mean x

/-- The reciprocal square root of the row's variance plus epsilon. -/
def rstd (x : Fin 8192 → EReal) : EReal :=
  Ideal.rsqrt (mean (fun k => dev x k * dev x k) + Ideal.ofBits .f32 0x3727C5AC#32)

/-- The normalised row, with weights `g` and offsets `b`. -/
def norm (x g b : Fin 8192 → EReal) (k : Fin 8192) : EReal := dev x k * rstd x * g k + b k

/-- Group `n` of a row: the 128 entries from entry `128 n`. -/
def group (v : Fin 8192 → EReal) (n : Fin 64) (l : Fin 128) : EReal := v ⟨128 * n.val + l.val, by omega⟩

/-! ## The quantisation of a group -/

/-- The group's least value, at most zero. -/
def low (w : Fin 128 → EReal) : EReal := min (Finset.univ.fold min (Ideal.ofBits .f32 0x7F800000#32) w) 0

/-- The group's greatest value, at least zero. -/
def high (w : Fin 128 → EReal) : EReal := max (Finset.univ.fold max (Ideal.ofBits .f32 0xFF800000#32) w) 0

/-- The 255th part of the group's range. -/
def step (w : Fin 128 → EReal) : EReal := Ideal.div (high w - low w) ((255 : ℝ) : EReal)

/-- The group's scale: the step where it is positive, one otherwise. -/
def scale (w : Fin 128 → EReal) : EReal := if 0 < step w then step w else 1

/-- The group's zero point, as an extended real. -/
def zero (w : Fin 128 → EReal) : EReal :=
  Ideal.liftRound Ideal.roundHalfEven (Ideal.div (0 - low w) (scale w))

/-- The level of entry `l`: the entry over the scale, rounded, shifted by the zero point, clipped to `[0, 255]`. -/
def level (w : Fin 128 → EReal) (l : Fin 128) : EReal :=
  min ((255 : ℝ) : EReal) (max 0 (Ideal.liftRound Ideal.roundHalfEven (Ideal.div (w l) (scale w)) + zero w))

/-- The code of entry `l`: its level as an 8-bit integer. -/
def code (w : Fin 128 → EReal) (l : Fin 128) : BitVec 8 := (Ideal.fptosi 32 (level w l)).setWidth 8

/-! ## Constants -/

/-- The word of `1 / 8192`. -/
theorem ofBits_recip : Ideal.ofBits .f32 0x39000000#32 = ((1 / 8192 : ℝ) : EReal) := by
  simp [Ideal.ofBits, Ideal.ieee, -EReal.coe_mul]; norm_num

/-- The word of `8192`. -/
theorem ofBits_8192 : Ideal.ofBits .f32 0x46000000#32 = ((8192 : ℝ) : EReal) := by
  simp [Ideal.ofBits, Ideal.ieee, -EReal.coe_mul]; norm_num

/-- The word of `255`. -/
theorem ofBits_255 : Ideal.ofBits .f32 0x437F0000#32 = ((255 : ℝ) : EReal) := by
  simp [Ideal.ofBits, Ideal.ieee, -EReal.coe_mul]; norm_num

/-- Dividing by 8192 is multiplying by its reciprocal, at the infinities too. -/
theorem div_8192 (s : EReal) : Ideal.div s ((8192 : ℝ) : EReal) = s * ((1 / 8192 : ℝ) : EReal) :=
  Ideal.div_coe (by norm_num) s

/-! ## Rounding -/

/-- The rounding of a real number between 0 and 255 is an integer between 0 and 255. -/
theorem round_mem {r : ℝ} (h0 : 0 ≤ r) (h1 : r ≤ 255) :
    0 ≤ Ideal.roundHalfEven r ∧ Ideal.roundHalfEven r ≤ 255 := by
  have hf0 : 0 ≤ ⌊r⌋ := Int.floor_nonneg.mpr h0
  have hf1 : ⌊r⌋ ≤ 255 := by
    have h : ((⌊r⌋ : ℤ) : ℝ) ≤ ((255 : ℤ) : ℝ) := (Int.floor_le r).trans (by exact_mod_cast h1)
    exact_mod_cast h
  have hup : ⌊r⌋ = 255 → r - ⌊r⌋ < 1 / 2 := fun h => by
    rw [h]; push_cast; linarith
  unfold Ideal.roundHalfEven
  dsimp only
  split_ifs with ha hb hc
  · omega
  · have : ⌊r⌋ ≠ 255 := fun h => ha (hup h)
    omega
  · omega
  · have : ⌊r⌋ ≠ 255 := fun h => ha (hup h)
    omega

/-! ## The zero point is an integer from 0 to 255 -/

/-- The low end is at most zero. -/
theorem low_nonpos (w : Fin 128 → EReal) : low w ≤ 0 := min_le_right _ _

/-- The high end is at least zero. -/
theorem high_nonneg (w : Fin 128 → EReal) : 0 ≤ high w := le_max_right _ _

/-- The quotient that the zero point rounds is a real number between 0 and 255: the numerator `- lo` is at most the
    range `hi - lo`, and an infinite range gives the quotient zero. -/
theorem quotient_mem {lo hi s : EReal} (hl : lo ≤ 0) (hh : 0 ≤ hi)
    (hs : s = if 0 < Ideal.div (hi - lo) ((255 : ℝ) : EReal) then Ideal.div (hi - lo) ((255 : ℝ) : EReal) else 1) :
    ∃ r : ℝ, 0 ≤ r ∧ r ≤ 255 ∧ Ideal.div (0 - lo) s = (r : EReal) := by
  rw [Ideal.div_coe (by norm_num : (255 : ℝ) ≠ 0)] at hs
  induction lo with
  | bot =>
    have hd : hi - ⊥ = ⊤ := by
      rw [sub_eq_add_neg, EReal.neg_bot]
      exact EReal.add_top_of_ne_bot (ne_of_gt (lt_of_lt_of_le EReal.bot_lt_zero hh))
    rw [hd, EReal.top_mul_coe_of_pos (by norm_num), if_pos EReal.zero_lt_top] at hs
    refine ⟨0, le_rfl, by norm_num, ?_⟩
    rw [hs, Ideal.div, if_neg EReal.top_ne_zero, EReal.inv_top, mul_zero, EReal.coe_zero]
  | top => exact absurd hl (by simp)
  | coe a =>
    have ha : a ≤ 0 := by exact_mod_cast hl
    induction hi with
    | bot => exact absurd hh (by simp)
    | top =>
      rw [EReal.top_sub_coe, EReal.top_mul_coe_of_pos (by norm_num), if_pos EReal.zero_lt_top] at hs
      refine ⟨0, le_rfl, by norm_num, ?_⟩
      rw [hs, Ideal.div, if_neg EReal.top_ne_zero, EReal.inv_top, mul_zero, EReal.coe_zero]
    | coe b =>
      have hb : 0 ≤ b := by exact_mod_cast hh
      rw [← EReal.coe_sub, ← EReal.coe_mul] at hs
      by_cases hp : 0 < (b - a) * (1 / 255)
      · rw [if_pos (by exact_mod_cast hp)] at hs
        have hd : 0 < b - a := by linarith
        refine ⟨(0 - a) * (1 / ((b - a) * (1 / 255))), ?_, ?_, ?_⟩
        · exact mul_nonneg (by linarith) (by positivity)
        · rw [mul_one_div, div_le_iff₀ hp]; linarith
        · rw [hs, Ideal.div_coe hp.ne', ← EReal.coe_zero, ← EReal.coe_sub, ← EReal.coe_mul]
      · rw [if_neg (by exact_mod_cast hp)] at hs
        have ha0 : a = 0 := by linarith
        refine ⟨0, le_rfl, by norm_num, ?_⟩
        rw [hs, ha0, EReal.coe_zero, sub_zero, Ideal.div, if_neg one_ne_zero, zero_mul]

/-- The zero point is a natural number at most 255. -/
theorem zero_nat (w : Fin 128 → EReal) : ∃ n : ℕ, n ≤ 255 ∧ zero w = ((n : ℝ) : EReal) := by
  obtain ⟨r, h0, h1, hr⟩ := quotient_mem (low_nonpos w) (high_nonneg w) (s := scale w) rfl
  obtain ⟨hz0, hz1⟩ := round_mem h0 h1
  refine ⟨(Ideal.roundHalfEven r).toNat, by omega, ?_⟩
  rw [zero, hr, Ideal.liftRound_coe]
  congr 1
  have : (((Ideal.roundHalfEven r).toNat : ℤ) : ℝ) = ((Ideal.roundHalfEven r : ℤ) : ℝ) := by
    rw [Int.toNat_of_nonneg hz0]
  exact_mod_cast this.symm

/-! ## The levels are integers from 0 to 255 -/

/-- An integer clipped to `[0, 255]` is a natural number at most 255. -/
theorem clip_int (z : ℤ) : ∃ n : ℕ, n ≤ 255 ∧ min ((255 : ℝ) : EReal) (max 0 ((z : ℝ) : EReal)) = ((n : ℝ) : EReal) := by
  refine ⟨(min 255 (max 0 z)).toNat, by omega, ?_⟩
  have h : (((min 255 (max 0 z)).toNat : ℤ) : ℝ) = min 255 (max 0 (z : ℝ)) := by
    rw [Int.toNat_of_nonneg (by omega)]; push_cast; rfl
  have h' : (((min 255 (max 0 z)).toNat : ℕ) : ℝ) = min 255 (max 0 (z : ℝ)) := by exact_mod_cast h
  rw [h']
  rw [EReal.coe_strictMono.monotone.map_min, EReal.coe_strictMono.monotone.map_max, EReal.coe_zero]

/-- The level of every entry is a natural number at most 255. -/
theorem level_nat (w : Fin 128 → EReal) (l : Fin 128) : ∃ n : ℕ, n ≤ 255 ∧ level w l = ((n : ℝ) : EReal) := by
  obtain ⟨z, _, hz⟩ := zero_nat w
  rw [level, hz]
  induction Ideal.div (w l) (scale w) with
  | bot => exact ⟨0, by norm_num, by simp⟩
  | top => exact ⟨255, le_rfl, by
      rw [Ideal.liftRound_top, EReal.top_add_coe, max_eq_right le_top, min_eq_left le_top]; norm_num⟩
  | coe r =>
    rw [Ideal.liftRound_coe, ← EReal.coe_add]
    obtain ⟨n, hn, h⟩ := clip_int (Ideal.roundHalfEven r + z)
    refine ⟨n, hn, ?_⟩
    rw [← h]; push_cast; rfl

/-! ## To integers and back -/

/-- A natural number that fits in a signed 32-bit word converts to that word. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num at h ⊢; omega
  rw [this, BitVec.ofInt_natCast]

/-- The zero point converted to a 32-bit integer and back is itself. -/
theorem zero_roundtrip (w : Fin 128 → EReal) : (((Ideal.fptosi 32 (zero w)).toInt : ℝ) : EReal) = zero w := by
  obtain ⟨n, hn, h⟩ := zero_nat w
  rw [h, fptosi_nat n (by omega)]
  have : (BitVec.ofNat 32 n).toInt = (n : ℤ) := by
    rw [BitVec.toInt_eq_toNat_of_lt] <;> simp only [BitVec.toNat_ofNat] <;> omega
  rw [this]; norm_cast

/-- Words added one after another from zero are the word of the sum of the numbers they hold. -/
theorem fold_ofNat {ι : Type} (S : Finset ι) (n : ι → ℕ) :
    S.fold IntOp.addi (0#32) (fun k => BitVec.ofNat 32 (n k)) = BitVec.ofNat 32 (∑ k ∈ S, n k) := by
  classical
  induction S using Finset.induction_on with
  | empty => rfl
  | insert a S ha ih =>
    rw [Finset.fold_insert ha, ih, Finset.sum_insert ha, BitVec.ofNat_add]; rfl

/-- Sixty-four levels of a group, summed and converted to a 32-bit integer, are the sum of their codes, each widened to
    32 bits. -/
theorem sum_codes (w : Fin 128 → EReal) (e : Fin 64 → Fin 128) :
    Ideal.fptosi 32 (∑ k, level w (e k))
      = Finset.univ.fold IntOp.addi (0#32) (fun k => (code w (e k)).setWidth 32) := by
  choose n hn h using level_nat w
  have hs : ∑ k, level w (e k) = (((∑ k, n (e k) : ℕ) : ℝ) : EReal) := by
    rw [Finset.sum_congr rfl fun k _ => h (e k)]
    have hc : ∀ S : Finset (Fin 64), ∑ k ∈ S, ((n (e k) : ℝ) : EReal) = (((∑ k ∈ S, n (e k) : ℕ) : ℝ) : EReal) := by
      intro S
      induction S using Finset.induction_on with
      | empty => simp
      | insert a S ha ih => rw [Finset.sum_insert ha, Finset.sum_insert ha, ih, Nat.cast_add, EReal.coe_add]
    exact hc _
  have hb : ∑ k : Fin 64, n (e k) ≤ 64 * 255 :=
    (Finset.sum_le_card_nsmul _ _ 255 fun k _ => hn (e k)).trans (by simp)
  have hc : ∀ k, (code w (e k)).setWidth 32 = BitVec.ofNat 32 (n (e k)) := fun k => by
    have := hn (e k)
    rw [code, h, fptosi_nat _ (by omega)]
    apply BitVec.eq_of_toNat_eq
    simp only [BitVec.toNat_setWidth, BitVec.toNat_ofNat]
    omega
  rw [hs, fptosi_nat _ (by omega)]
  simp only [hc]
  exact (fold_ofNat _ _).symm

/-- The lane `64 p + k` of a group: entry `k` of its half `p`. -/
def lane (p : Fin 2) (k : Fin 64) : Fin 128 := ⟨p.val * 64 + k.val, by omega⟩

/-- A sum over the lanes of a group that keeps only the first half is the sum over the first half. -/
theorem sum_first (f : Fin 128 → EReal) : ∑ l, (if l.val < 64 then f l else 0) = ∑ k, f (lane 0 k) := by
  rw [Fin.sum_univ_add (a := 64) (b := 64) (fun l : Fin 128 => if l.val < 64 then f l else 0)]
  have h2 : ∀ k : Fin 64, (if (Fin.natAdd 64 k : Fin 128).val < 64 then f (Fin.natAdd 64 k) else 0) = 0 := fun k =>
    if_neg (by simp)
  rw [Finset.sum_congr rfl fun k _ => h2 k, Finset.sum_const_zero, add_zero]
  refine Finset.sum_congr rfl fun k _ => ?_
  rw [if_pos (by simp)]
  exact congrArg f (Fin.ext (by simp [lane]))

/-- A sum over the lanes of a group that keeps only the second half is the sum over the second half. -/
theorem sum_second (f : Fin 128 → EReal) : ∑ l, (if l.val < 64 then 0 else f l) = ∑ k, f (lane 1 k) := by
  rw [Fin.sum_univ_add (a := 64) (b := 64) (fun l : Fin 128 => if l.val < 64 then 0 else f l)]
  have h2 : ∀ k : Fin 64, (if (Fin.castAdd 64 k : Fin 128).val < 64 then 0 else f (Fin.castAdd 64 k)) = 0 := fun k =>
    if_pos (by simp)
  rw [Finset.sum_congr rfl fun k _ => h2 k, Finset.sum_const_zero, zero_add]
  refine Finset.sum_congr rfl fun k _ => ?_
  rw [if_neg (by simp)]
  exact congrArg f (Fin.ext (by simp [lane]; omega))

/-- The sum of the codes of half `p` of a group, as a 32-bit integer. -/
def halfSum (w : Fin 128 → EReal) (p : Fin 2) : BitVec 32 :=
  Finset.univ.fold IntOp.addi (0#32) (fun k => (code w (lane p k)).setWidth 32)

end Cert.Row

end
-- ==== Proof.GroupRow.lean ====
/- The kernel's chain for one group of 128 channels, read at one row: each vector of the chain holds, at row `r`, the
   quantity that `Cert.Row` defines of the row's own 128 values. -/
module

public import proofs.«01_k».proof.Proof.Group
public import proofs.«01_k».proof.Proof.Row

@[expose] public section

set_option maxRecDepth 16384

noncomputable section

namespace Cert.Group

open Idealize.ShloMosaic Cert.KernelIdeal Cert.KernelIdeal.Gen

variable (y : FVec Ideal S64x128 .f32)

/-- Row `r` of a group's 64 rows of 128 values. -/
abbrev rowOf (r : Fin 64) : Fin 128 → EReal := fun l => y (ix2 r l)

/-- The deviations of a block, at an index, are those of the index's row. -/
theorem dev_at (x : FVec Ideal S64x8192 .bf16) (r : Fin 64) (k : Fin 8192) :
    dev x (ix2 r k) = Row.dev (fun k => x (ix2 r k)) k := by
  pointwise [dev]
  rw [Row.ofBits_recip]; rfl

/-- The reciprocal deviation of a row of a block. -/
theorem rstd_at (x : FVec Ideal S64x8192 .bf16) (r : Fin 64) :
    rstd x (ix2 r 0) = Row.rstd (fun k => x (ix2 r k)) := by
  pointwise [rstd]
  simp only [dev_at, Row.ofBits_recip]; rfl

/-- The normalised group at an index. -/
theorem norm_at (o : ℕ) (h : S64x8192.Slices ![0, o] S64x128) (x : FVec Ideal S64x8192 .bf16)
    (g b : FVec Ideal S1x128 .f32) (r : Fin 64) (l : Fin 128) (k : Fin 8192) (hk : k.val = o + l.val) :
    norm o h (dev x) (rstd x) g b (ix2 r l)
      = Row.dev (fun k => x (ix2 r k)) k * Row.rstd (fun k => x (ix2 r k)) * g (ix2 0 l) + b (ix2 0 l) := by
  pointwise [norm]
  rw [← rstd_at, ← dev_at]
  congr 4
  exact congrArg _ (Fin.ext hk.symm)

/-- The low end of a row: its least value, or zero if that is less. -/
theorem low_at (r : Fin 64) : low y (ix2 r 0) = Row.low (rowOf y r) := by
  pointwise [low]
  rfl

/-- The high end of a row: its greatest value, or zero if that is greater. -/
theorem high_at (r : Fin 64) : high y (ix2 r 0) = Row.high (rowOf y r) := by
  pointwise [high]
  rfl

/-- The step of a row: its range over 255. -/
theorem step_at (r : Fin 64) : step y (ix2 r 0) = Row.step (rowOf y r) := by
  pointwise [step]
  rw [low_at, high_at, Row.ofBits_255]; rfl

/-- The scale of a row. -/
theorem scale_at (r : Fin 64) : scale y (ix2 r 0) = Row.scale (rowOf y r) := by
  pointwise [scale]
  rw [step_at]; rfl

/-- The zero point of a row. -/
theorem zero_at (r : Fin 64) : zero y (ix2 r 0) = Row.zero (rowOf y r) := by
  pointwise [zero]
  rw [low_at, scale_at, Row.zero]

/-- The levels of a row. -/
theorem level_at (r : Fin 64) (l : Fin 128) : level y (ix2 r l) = Row.level (rowOf y r) l := by
  pointwise [level]
  rw [zero_at, scale_at, Row.ofBits_255]; rfl

/-- The codes of a row. -/
theorem code_at (r : Fin 64) (l : Fin 128) : code y (ix2 r l) = Row.code (rowOf y r) l := by
  pointwise [code]
  rw [level_at]; rfl

/-- The comparison of a lane's number with 64, as the mask holds it. -/
theorem mask_at : ∀ l : Fin 128, IntOp.cmpi .slt (BitVec.ofNat 32 l.val) 64#32 = if l.val < 64 then 1#1 else 0#1 := by
  decide

/-- The sum of a row's levels over the first half of the group. -/
theorem sumKept_at (r : Fin 64) : sumKept half y (ix2 r 0) = ∑ k, Row.level (rowOf y r) (Row.lane 0 k) := by
  rw [← Row.sum_first]
  refine Eq.trans (b := ∑ l : Fin 128, Scalar.select (IntOp.cmpi .slt (BitVec.ofNat 32 l.val) 64#32) (level y (ix2 r l)) (0 : EReal))
    (by pointwise [sumKept, half]) ?_
  refine Finset.sum_congr (M := EReal) rfl fun l _ => ?_
  rw [level_at, mask_at]
  by_cases h : l.val < 64 <;> simp [h, Scalar.select]

/-- The sum of a row's levels over the second half of the group. -/
theorem sumDropped_at (r : Fin 64) : sumDropped half y (ix2 r 0) = ∑ k, Row.level (rowOf y r) (Row.lane 1 k) := by
  rw [← Row.sum_second]
  refine Eq.trans (b := ∑ l : Fin 128, Scalar.select (IntOp.cmpi .slt (BitVec.ofNat 32 l.val) 64#32) (0 : EReal) (level y (ix2 r l)))
    (by pointwise [sumDropped, half]) ?_
  refine Finset.sum_congr (M := EReal) rfl fun l _ => ?_
  rw [level_at, mask_at]
  by_cases h : l.val < 64 <;> simp [h, Scalar.select]

end Cert.Group

end
-- ==== Proof.Families.lean ====
/- What the kernel's body stores for one block of 64 rows, as families over the 64 groups: the body repeats one chain of
   operations for each group, and each stored array is that chain (`Cert.Group`) at every group. -/
module

public import proofs.«01_k».proof.Proof.Group
public import proofs.«01_k».proof.Proof.Gen.KernelIdeal.Value
public import Idealize.ShloMosaic.Lib.Pipeline.ValueKit

@[expose] public section

set_option maxRecDepth 65536

noncomputable section

namespace Cert.Block

open Idealize.ShloMosaic Cert.KernelIdeal Cert.KernelIdeal.Gen

variable {F : FTy → Type} [FloatOps F]

/-! ## The groups' rectangles -/

/-- Group `g`'s 128 channels lie inside a block's 8192. -/
theorem slices (g : Fin 64) : S64x8192.Slices ![0, 128 * g.val] S64x128 := ⟨rfl, by
  intro a
  match a with
  | ⟨0, _⟩ => exact (by decide : 0 + 64 ≤ 64)
  | ⟨1, _⟩ => show 128 * g.val + 128 ≤ 8192; omega⟩

/-- Group `g`'s 128 weights lie inside the 8192. -/
theorem inbRow (g : Fin 64) : ∀ a, (![0, 128 * g.val] : Fin 2 → ℕ) a + S1x128.size a ≤ S1x8192.size a := by
  intro a
  match a with
  | ⟨0, _⟩ => exact (by decide : 0 + 1 ≤ 1)
  | ⟨1, _⟩ => show 128 * g.val + 128 ≤ 8192; omega

/-- Group `g`'s 64 rows of 128 codes lie inside the block's codes. -/
theorem inbCode (g : Fin 64) : ∀ a, (![0, 128 * g.val] : Fin 2 → ℕ) a + S64x128.size a ≤ S64x8192.size a := by
  intro a
  match a with
  | ⟨0, _⟩ => exact (by decide : 0 + 64 ≤ 64)
  | ⟨1, _⟩ => show 128 * g.val + 128 ≤ 8192; omega

/-- 64 columns laid side by side make 64. -/
theorem cat64 {α : Type} (f : Fin 64 → S64x1.Idx → α) :
    Shape.Concatenates ((List.ofFn fun g : Fin 64 => (⟨S64x1, f g⟩ : (s : Shape) × (s.Idx → α))).map (·.1)) S64x64 1 := by
  rw [List.map_ofFn]; exact (by decide : Shape.Concatenates (List.ofFn fun _ : Fin 64 => S64x1) S64x64 1)

/-- 128 columns laid side by side make 128. -/
theorem cat128 {α : Type} (f : Fin 128 → S64x1.Idx → α) :
    Shape.Concatenates ((List.ofFn fun g : Fin 128 => (⟨S64x1, f g⟩ : (s : Shape) × (s.Idx → α))).map (·.1)) S64x128 1 := by
  rw [List.map_ofFn]; exact (by decide : Shape.Concatenates (List.ofFn fun _ : Fin 128 => S64x1) S64x128 1)

/-! ## The families -/

/-- Group `g` of a block, normalised: `x0` is the block, `x1` the weights, `x2` the offsets. -/
def normOf (x0 : Vec F S64x8192 .bf16) (x1 x2 : Vec F S1x8192 .f32) (g : Fin 64) : FVec F S64x128 .f32 :=
  Group.norm (128 * g.val) (slices g) (Group.dev (View.ld x0 r0_0)) (Group.rstd (View.ld x0 r0_0))
    (View.ld x1 (Rect.unit ![0, 128 * g.val] S1x128.size (inbRow g)))
    (View.ld x2 (Rect.unit ![0, 128 * g.val] S1x128.size (inbRow g)))

/-- Half-group `h` of a block (group `h / 2`, its first half where `h` is even): each row's sum of levels. -/
def sumOf (x0 : Vec F S64x8192 .bf16) (x1 x2 : Vec F S1x8192 .f32) (h : Fin 128) : FVec F S64x1 .f32 :=
  if h.val % 2 = 0 then Group.sumKept Group.half (normOf x0 x1 x2 ⟨h.val / 2, by omega⟩)
  else Group.sumDropped Group.half (normOf x0 x1 x2 ⟨h.val / 2, by omega⟩)

variable (x0 : Vec F S64x8192 .bf16) (x1 x2 : Vec F S1x8192 .f32)

/-- The codes stored: each group's codes at the group's rectangle, the last store first. -/
theorem out3_eq : out0_3 x0 x1 x2 = View.canon (List.ofFn fun k : Fin 64 =>
    (⟨Rect.unit ![0, 128 * k.rev.val] S64x128.size (inbCode k.rev), Group.code (normOf x0 x1 x2 k.rev)⟩ :
      View.Piece (Elt F) S64x8192 .i8)) := rfl

/-- The scales stored: the groups' columns of scales side by side. -/
theorem out4_eq : out0_4 x0 x1 x2 = View.canon [⟨r0_129, concatenate S64x64 1 (List.ofFn fun g : Fin 64 =>
    (⟨S64x1, Group.scale (normOf x0 x1 x2 g)⟩ : (s : Shape) × (s.Idx → F .f32))) (cat64 _)⟩] := rfl

/-- The zero points stored: the groups' columns of zero points side by side, as 32-bit integers. -/
theorem out5_eq : out0_5 x0 x1 x2 = View.canon [⟨r0_129, fptosi 32 (concatenate S64x64 1 (List.ofFn fun g : Fin 64 =>
    (⟨S64x1, Group.zero (normOf x0 x1 x2 g)⟩ : (s : Shape) × (s.Idx → F .f32))) (cat64 _))⟩] := rfl

/-- The sums stored: the half-groups' columns of sums side by side, as 32-bit integers. -/
theorem out6_eq : out0_6 x0 x1 x2 = View.canon [⟨r0_130, fptosi 32 (concatenate S64x128 1 (List.ofFn fun h : Fin 128 =>
    (⟨S64x1, sumOf x0 x1 x2 h⟩ : (s : Shape) × (s.Idx → F .f32))) (cat128 _))⟩] := rfl

end Cert.Block

end
-- ==== Proof.Block.lean ====
/- What the kernel's body stores for one block of 64 rows, read at an index: at row `r`, the quantities that `Cert.Row`
   defines of the block's row `r`. -/
module

public import proofs.«01_k».proof.Proof.GroupRow
public import proofs.«01_k».proof.Proof.Families

@[expose] public section

set_option maxRecDepth 16384

noncomputable section

namespace Cert.Block

open Idealize.ShloMosaic Cert.KernelIdeal Cert.KernelIdeal.Gen

variable (x0 : FVec Ideal S64x8192 .bf16) (x1 x2 : FVec Ideal S1x8192 .f32)

/-- Row `r` of a block, normalised. -/
def normRow (r : Fin 64) : Fin 8192 → EReal :=
  Row.norm (fun k => x0 (ix2 r k)) (fun k => x1 (ix2 0 k)) (fun k => x2 (ix2 0 k))

/-- A whole array's rectangle starts at zero on both axes. -/
theorem offset_zero : (![0, 0] : Fin 2 → ℕ) = fun _ => 0 := by
  funext a
  match a with
  | ⟨0, _⟩ => rfl
  | ⟨1, _⟩ => rfl

/-- The load of a whole block is the block. -/
theorem ld_block : View.ld (Val := Elt Ideal) (e' := .bf16) x0 r0_0 = x0 :=
  View.ld_unit_zero (Val := Elt Ideal) (S := S64x8192) (e := .bf16) offset_zero _ x0

/-- Row `r` of normalised group `g` is group `g` of the normalised row `r`. -/
theorem normOf_row (g r : Fin 64) :
    Group.rowOf (normOf (F := Ideal) x0 x1 x2 g) r = Row.group (normRow x0 x1 x2 r) g := by
  funext l
  show normOf (F := Ideal) x0 x1 x2 g (ix2 r l) = _
  rw [normOf, ld_block, Group.norm_at _ _ _ _ _ r l ⟨128 * g.val + l.val, by omega⟩ rfl,
    View.ld_unit_apply_of (Val := Elt Ideal) (e := .f32) x1 _ _ _ _ (ix2 0 ⟨128 * g.val + l.val, by omega⟩)
      (fun a => by match a with | ⟨0, _⟩ => rfl | ⟨1, _⟩ => rfl),
    View.ld_unit_apply_of (Val := Elt Ideal) (e := .f32) x2 _ _ _ _ (ix2 0 ⟨128 * g.val + l.val, by omega⟩)
      (fun a => by match a with | ⟨0, _⟩ => rfl | ⟨1, _⟩ => rfl)]
  rfl

/-- 64 columns side by side, at row `r` and column `g`. -/
theorem cat64_at (f : Fin 64 → S64x1.Idx → EReal) (r g : Fin 64) :
    concatenate S64x64 1 (List.ofFn fun g : Fin 64 => (⟨S64x1, f g⟩ : (s : Shape) × (s.Idx → EReal))) (cat64 f) (ix2 r g)
      = f g (ix2 r 0) := by
  refine concatenate_ofFn_unit_eq (s₁ := S64x1) 1 f (cat64 f) (ix2 r g) _ rfl rfl fun n i hn h0 hb => ?_
  obtain rfl : n = g := Fin.ext hn.symm
  congr 1
  funext a
  match a with
  | ⟨0, _⟩ => exact Fin.ext (hb 0 (by decide))
  | ⟨1, _⟩ => exact Fin.ext h0

/-- 128 columns side by side, at row `r` and column `h`. -/
theorem cat128_at (f : Fin 128 → S64x1.Idx → EReal) (r : Fin 64) (h : Fin 128) :
    concatenate S64x128 1 (List.ofFn fun h : Fin 128 => (⟨S64x1, f h⟩ : (s : Shape) × (s.Idx → EReal))) (cat128 f) (ix2 r h)
      = f h (ix2 r 0) := by
  refine concatenate_ofFn_unit_eq (s₁ := S64x1) 1 f (cat128 f) (ix2 r h) _ rfl rfl fun n i hn h0 hb => ?_
  obtain rfl : n = h := Fin.ext hn.symm
  congr 1
  funext a
  match a with
  | ⟨0, _⟩ => exact Fin.ext (hb 0 (by decide))
  | ⟨1, _⟩ => exact Fin.ext h0

/-- The scale stored at row `r` for group `g`. -/
theorem scale_at (r g : Fin 64) :
    out0_4 (F := Ideal) x0 x1 x2 (ix2 r g) = Row.scale (Row.group (normRow x0 x1 x2 r) g) := by
  rw [out4_eq, View.canon_unit_zero offset_zero]
  exact (cat64_at _ r g).trans (by rw [Group.scale_at, normOf_row])

/-- The zero point stored at row `r` for group `g`. -/
theorem zero_at (r g : Fin 64) :
    out0_5 (F := Ideal) x0 x1 x2 (ix2 r g) = Ideal.fptosi 32 (Row.zero (Row.group (normRow x0 x1 x2 r) g)) := by
  rw [out5_eq, View.canon_unit_zero offset_zero]
  exact congrArg (Ideal.fptosi 32) ((cat64_at _ r g).trans (by rw [Group.zero_at, normOf_row]))

/-- The sum stored at row `r` for half-group `h`. -/
theorem sum_at (r : Fin 64) (h : Fin 128) :
    out0_6 (F := Ideal) x0 x1 x2 (ix2 r h)
      = Row.halfSum (Row.group (normRow x0 x1 x2 r) ⟨h.val / 2, by omega⟩) ⟨h.val % 2, by omega⟩ := by
  rw [out6_eq, View.canon_unit_zero offset_zero, Row.halfSum, ← Row.sum_codes]
  refine congrArg (Ideal.fptosi 32) ((cat128_at _ r h).trans ?_)
  rw [sumOf]
  by_cases hp : h.val % 2 = 0
  · rw [if_pos hp, Group.sumKept_at, normOf_row]
    simp only [hp]; rfl
  · have h1 : h.val % 2 = 1 := by omega
    rw [if_neg hp, Group.sumDropped_at, normOf_row]
    simp only [h1]; rfl

/-- The code stored at row `r` for channel `k`: that of lane `k % 128` of group `k / 128`. -/
theorem code_at (r : Fin 64) (k : Fin 8192) :
    out0_3 (F := Ideal) x0 x1 x2 (ix2 r k)
      = Row.code (Row.group (normRow x0 x1 x2 r) ⟨k.val / 128, by omega⟩) ⟨k.val % 128, by omega⟩ := by
  rw [out3_eq]
  refine View.canon_ofFn_unit_eq_of_forall (Val := Elt Ideal) (S := S64x8192) (e := .i8) (fun g : Fin 64 => ![0, 128 * g.rev.val]) S64x128.size
    (fun g => inbCode g.rev) (fun g => Group.code (normOf (F := Ideal) x0 x1 x2 g.rev)) (ix2 r k) _ ?_ fun g x hx => ?_
  · refine ⟨(⟨k.val / 128, by omega⟩ : Fin 64).rev, fun a => ?_⟩
    rw [Fin.rev_rev]
    match a with
    | ⟨0, _⟩ => exact ⟨Nat.zero_le _, by show r.val < 0 + 64; omega⟩
    | ⟨1, _⟩ => exact ⟨by show 128 * (k.val / 128) ≤ k.val; omega, by show k.val < 128 * (k.val / 128) + 128; omega⟩
  · have h0 : r.val = 0 + (x 0).val := hx 0
    have h1 : k.val = 128 * g.rev.val + (x 1).val := hx 1
    have hlt : (x 1).val < 128 := (x 1).isLt
    have hx' : x = ix2 r ⟨k.val % 128, by omega⟩ := by
      funext a
      match a with
      | ⟨0, _⟩ => exact Fin.ext (by show (x 0).val = r.val; omega)
      | ⟨1, _⟩ => exact Fin.ext (by show (x 1).val = k.val % 128; omega)
    have hg : g.rev = ⟨k.val / 128, by omega⟩ := Fin.ext (by show g.rev.val = k.val / 128; omega)
    rw [hx', Group.code_at, normOf_row, hg]

end Cert.Block

end
-- ==== Proof.Result.lean ====
/- The four results as functions of the three arguments: the layer norm of each of the 24576 rows, and the codes, scales,
   zero points and half-group sums of its 64 groups. Both programs' result arrays are compared with these. -/
module

public import proofs.«01_k».proof.Proof.Row

@[expose] public section

noncomputable section

namespace Cert.Result

open Idealize.ShloMosaic

/-- The argument's shape: 12 by 2048 rows of 8192 values. -/
abbrev SX : Shape := ⟨3, ![12, 2048, 8192]⟩

/-- The shape of the weights and of the offsets. -/
abbrev SV : Shape := ⟨1, ![8192]⟩

variable (X : FVec Ideal SX .bf16) (G B : FVec Ideal SV .f32)

/-- Row `(p, q)` of the argument, normalised. -/
def normRow (p : Fin 12) (q : Fin 2048) : Fin 8192 → EReal :=
  Row.norm (fun k => X (ix3 p q k)) (fun k => G (ix1 k)) (fun k => B (ix1 k))

/-- Group `n` of normalised row `(p, q)`. -/
def grp (p : Fin 12) (q : Fin 2048) (n : Fin 64) : Fin 128 → EReal := Row.group (normRow X G B p q) n

/-- The rows numbered in order: row `i` of the 24576 is row `(i / 2048, i % 2048)`. -/
def outer (i : Fin 24576) : Fin 12 := ⟨i.val / 2048, by omega⟩

/-- The second coordinate of row `i`. -/
def inner (i : Fin 24576) : Fin 2048 := ⟨i.val % 2048, by omega⟩

/-- The code of channel `k` in row `i`. -/
def code (i : Fin 24576) (k : Fin 8192) : BitVec 8 :=
  Row.code (grp X G B (outer i) (inner i) ⟨k.val / 128, by omega⟩) ⟨k.val % 128, by omega⟩

/-- The scale of group `n` in row `i`. -/
def scale (i : Fin 24576) (n : Fin 64) : EReal := Row.scale (grp X G B (outer i) (inner i) n)

/-- The zero point of group `n` in row `i`. -/
def zero (i : Fin 24576) (n : Fin 64) : BitVec 32 := Ideal.fptosi 32 (Row.zero (grp X G B (outer i) (inner i) n))

/-- The sum of the codes of half-group `h` in row `i`. -/
def sum (i : Fin 24576) (h : Fin 128) : BitVec 32 :=
  Row.halfSum (grp X G B (outer i) (inner i) ⟨h.val / 2, by omega⟩) ⟨h.val % 2, by omega⟩

end Cert.Result

end
-- ==== Proof.Arrays.lean ====
/- The kernel's four result arrays after its run: each is the result of `Cert.Result` at every index. -/
module

public import proofs.«01_k».proof.Proof.Block
public import proofs.«01_k».proof.Proof.Result

@[expose] public section

set_option maxRecDepth 16384

noncomputable section

namespace Cert.Arrays

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The argument. -/
abbrev argX (c : Dev nD) : FVec Ideal Result.SX .bf16 := m ((c : Thread nD τ).loc main_arg0)
/-- The weights. -/
abbrev argG (c : Dev nD) : FVec Ideal Result.SV .f32 := m ((c : Thread nD τ).loc main_arg1)
/-- The offsets. -/
abbrev argB (c : Dev nD) : FVec Ideal Result.SV .f32 := m ((c : Thread nD τ).loc main_arg2)

/-- Every window's block index at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- Row `r` of the block at grid point `t` is row `64 t + r`. -/
def rowAt (t : Fin cfg0.N) (r : Fin 64) : Fin 24576 := ⟨t.val * 64 + r.val, by
  have : t.val < 384 := lt_of_lt_of_eq t.isLt N_0
  omega⟩

/-- The kernel's input block at grid point `t`: row `r` of it is row `64 t + r` of the argument. -/
theorem block_at (c : Dev nD) (t : Fin cfg0.N) (r : Fin 64) (k : Fin 8192) :
    (show FVec Ideal S64x8192 .bf16 from iblk m c 0 t) (ix2 r k)
      = argX m c (ix3 (Result.outer (rowAt t r)) (Result.inner (rowAt t r)) k) := by
  blk_simp [iblk]
  entry_read
  pointwise
  blk_ext [iblk, V, idx t] <;> rfl

/-- The weights' block at every grid point is the weights. -/
theorem weights_at (c : Dev nD) (t : Fin cfg0.N) (k : Fin 8192) :
    (show FVec Ideal S1x8192 .f32 from iblk m c 1 t) (ix2 0 k) = argG m c (ix1 k) := by
  blk_simp [iblk]
  entry_read
  pointwise
  blk_ext [iblk, V, idx t]

/-- The offsets' block at every grid point is the offsets. -/
theorem offsets_at (c : Dev nD) (t : Fin cfg0.N) (k : Fin 8192) :
    (show FVec Ideal S1x8192 .f32 from iblk m c 2 t) (ix2 0 k) = argB m c (ix1 k) := by
  blk_simp [iblk]
  entry_read
  pointwise
  blk_ext [iblk, V, idx t]

/-- Row `r` of the block at grid point `t`, normalised, is row `64 t + r` of the argument, normalised. -/
theorem normRow_at (c : Dev nD) (t : Fin cfg0.N) (r : Fin 64) :
    Block.normRow (iblk m c 0 t) (iblk m c 1 t) (iblk m c 2 t) r
      = Result.normRow (argX m c) (argG m c) (argB m c) (Result.outer (rowAt t r)) (Result.inner (rowAt t r)) := by
  unfold Block.normRow Result.normRow
  congr 1
  · exact funext fun k => block_at m c t r k
  · exact funext fun k => weights_at m c t k
  · exact funext fun k => offsets_at m c t k

/-- What the grid point `t` leaves in the block of codes: the result at its row. -/
theorem code_at (c : Dev nD) (t : Fin cfg0.N) (r : Fin 64) (k : Fin 8192) :
    out0_3 (F := Ideal) (iblk m c 0 t) (iblk m c 1 t) (iblk m c 2 t) (ix2 r k)
      = Result.code (argX m c) (argG m c) (argB m c) (rowAt t r) k := by
  rw [Block.code_at, normRow_at]; rfl

/-- The array of codes after the run. -/
theorem final_code (c : Dev nD) : (dats m 0 c).arrAt 3 cfg0.N
    = (fun i : S24576x8192.Idx => Result.code (argX m c) (argG m c) (argB m c) (i 0) (i 1)) := by
  refine (dats m 0 c).arrAt_eq_of_covers 3 _ (by decide +kernel) fun t hf y => ?_
  blk_simp
  rw [after0_3]
  refine (congrArg (out0_3 (F := Ideal) (iblk m c 0 t) (iblk m c 1 t) (iblk m c 2 t))
    (eq_ix2 (n0 := 64) (n1 := 8192) y)).trans (((code_at m c t (y 0) (y 1)).trans ?_))
  have e0 : (win0_3.blk t).view.emb y 0 = rowAt t (y 0) := Fin.ext (by blk_simp [idx t]; rfl)
  have e1 : (win0_3.blk t).view.emb y 1 = (show Fin 8192 from y 1) := Fin.ext (by blk_simp [idx t])
  rw [e0, e1]

/-- What the grid point `t` leaves in the block of scales: the result at its row. -/
theorem scale_at (c : Dev nD) (t : Fin cfg0.N) (r : Fin 64) (k : Fin 64) :
    out0_4 (F := Ideal) (iblk m c 0 t) (iblk m c 1 t) (iblk m c 2 t) (ix2 r k)
      = Result.scale (argX m c) (argG m c) (argB m c) (rowAt t r) k := by
  rw [Block.scale_at, normRow_at]; rfl

/-- The array of scales after the run. -/
theorem final_scale (c : Dev nD) : (dats m 0 c).arrAt 4 cfg0.N
    = (fun i : S24576x64.Idx => Result.scale (argX m c) (argG m c) (argB m c) (i 0) (i 1)) := by
  refine (dats m 0 c).arrAt_eq_of_covers 4 _ (by decide +kernel) fun t hf y => ?_
  blk_simp
  rw [after0_4]
  refine (congrArg (out0_4 (F := Ideal) (iblk m c 0 t) (iblk m c 1 t) (iblk m c 2 t))
    (eq_ix2 (n0 := 64) (n1 := 64) y)).trans (((scale_at m c t (y 0) (y 1)).trans ?_))
  have e0 : (win0_4.blk t).view.emb y 0 = rowAt t (y 0) := Fin.ext (by blk_simp [idx t]; rfl)
  have e1 : (win0_4.blk t).view.emb y 1 = (show Fin 64 from y 1) := Fin.ext (by blk_simp [idx t])
  rw [e0, e1]

/-- What the grid point `t` leaves in the block of zero points: the result at its row. -/
theorem zero_at (c : Dev nD) (t : Fin cfg0.N) (r : Fin 64) (k : Fin 64) :
    out0_5 (F := Ideal) (iblk m c 0 t) (iblk m c 1 t) (iblk m c 2 t) (ix2 r k)
      = Result.zero (argX m c) (argG m c) (argB m c) (rowAt t r) k := by
  rw [Block.zero_at, normRow_at]; rfl

/-- The array of zero points after the run. -/
theorem final_zero (c : Dev nD) : (dats m 0 c).arrAt 5 cfg0.N
    = (fun i : S24576x64.Idx => Result.zero (argX m c) (argG m c) (argB m c) (i 0) (i 1)) := by
  refine (dats m 0 c).arrAt_eq_of_covers 5 _ (by decide +kernel) fun t hf y => ?_
  blk_simp
  rw [after0_5]
  refine (congrArg (out0_5 (F := Ideal) (iblk m c 0 t) (iblk m c 1 t) (iblk m c 2 t))
    (eq_ix2 (n0 := 64) (n1 := 64) y)).trans (((zero_at m c t (y 0) (y 1)).trans ?_))
  have e0 : (win0_5.blk t).view.emb y 0 = rowAt t (y 0) := Fin.ext (by blk_simp [idx t]; rfl)
  have e1 : (win0_5.blk t).view.emb y 1 = (show Fin 64 from y 1) := Fin.ext (by blk_simp [idx t])
  rw [e0, e1]

/-- What the grid point `t` leaves in the block of half-group sums: the result at its row. -/
theorem sum_at (c : Dev nD) (t : Fin cfg0.N) (r : Fin 64) (k : Fin 128) :
    out0_6 (F := Ideal) (iblk m c 0 t) (iblk m c 1 t) (iblk m c 2 t) (ix2 r k)
      = Result.sum (argX m c) (argG m c) (argB m c) (rowAt t r) k := by
  rw [Block.sum_at, normRow_at]; rfl

/-- The array of half-group sums after the run. -/
theorem final_sum (c : Dev nD) : (dats m 0 c).arrAt 6 cfg0.N
    = (fun i : S24576x128.Idx => Result.sum (argX m c) (argG m c) (argB m c) (i 0) (i 1)) := by
  refine (dats m 0 c).arrAt_eq_of_covers 6 _ (by decide +kernel) fun t hf y => ?_
  blk_simp
  rw [after0_6]
  refine (congrArg (out0_6 (F := Ideal) (iblk m c 0 t) (iblk m c 1 t) (iblk m c 2 t))
    (eq_ix2 (n0 := 64) (n1 := 128) y)).trans (((sum_at m c t (y 0) (y 1)).trans ?_))
  have e0 : (win0_6.blk t).view.emb y 0 = rowAt t (y 0) := Fin.ext (by blk_simp [idx t]; rfl)
  have e1 : (win0_6.blk t).view.emb y 1 = (show Fin 128 from y 1) := Fin.ext (by blk_simp [idx t])
  rw [e0, e1]

end Cert.Arrays

end
-- ==== Proof.Reference.lean ====
/- The reference's results at an index: each of its four result arrays is the result of `Cert.Result` there. The
   reference's operations are read one stage at a time. -/
module

public import proofs.«01_k».proof.Proof.Gen.ReferenceIdeal.Read
public import proofs.«01_k».proof.Proof.Result

@[expose] public section

set_option maxRecDepth 16384

noncomputable section

namespace Cert.Reference

open Idealize.ShloMosaic Cert.ReferenceIdeal Cert.ReferenceIdeal.Gen Cert.ReferenceIdeal.Read

variable (X : FVec Ideal S12x2048x8192 .bf16) (G B : FVec Ideal S8192 .f32)
variable (p : Fin 12) (q : Fin 2048) (n : Fin 64) (l : Fin 128) (k : Fin 8192)

/-! ## The layer norm -/

/-- An entry minus its row's mean. -/
theorem dev_at : val_main_v6 (F := Ideal) X (ix3 p q k) = Row.dev (fun k => X (ix3 p q k)) k := by
  pointwise [val_main_v6, val_main_v5, val_main_v4, val_main_v3, val_main_v2, val_main_v1, val_main_v0, val_main_cst,
    val_main_cst_0]
  rw [Row.ofBits_8192, Row.div_8192]; rfl

/-- The normalised argument. -/
theorem norm_at : val_main_v22 (F := Ideal) X G B (ix3 p q k) = Result.normRow X G B p q k := by
  pointwise [val_main_v22, val_main_v21, val_main_v20, val_main_v19, val_main_v18, val_main_v17, val_main_v16,
    val_main_v15, val_main_v14, val_main_v13, val_main_v12, val_main_v11, val_main_v10, val_main_v9, val_main_v8,
    val_main_v7, val_main_cst_1, val_main_cst_2, val_main_cst_3]
  simp only [dev_at, Row.ofBits_8192, Row.div_8192]; rfl

/-- The normalised argument, its rows cut into groups. -/
theorem group_at : val_main_v23 (F := Ideal) X G B (ix4 p q n l) = Result.grp X G B p q n l := by
  unfold val_main_v23
  generalize hy : val_main_v22 (F := Ideal) X G B = y
  have h : shapeCast S12x2048x64x128 y shapeCasts_S12x2048x8192_S12x2048x64x128 (ix4 p q n l)
      = y (ix3 p q ⟨128 * n.val + l.val, by omega⟩) := by
    pointwise
    congr 2
    exact Fin.ext (by show n.val * 128 + l.val = 128 * n.val + l.val; omega)
  refine h.trans ?_
  rw [← hy, norm_at]; rfl

/-! ## The scale and the zero point of a group -/

/-- The least value of each group, over any array of groups. -/
theorem reduceMin_at (y : FVec Ideal S12x2048x64x128 .f32) :
    Host.reduce FloatOps.minimumf y (val_main_cst_4 (F := Ideal)) reducesTo_S12x2048x64x128_S12x2048x64_d3 h_S_ (ix3 p q n)
      = Finset.univ.fold min (Ideal.ofBits .f32 0x7F800000#32) fun l => y (ix4 p q n l) := by
  pointwise [val_main_cst_4]

/-- The greatest value of each group, over any array of groups. -/
theorem reduceMax_at (y : FVec Ideal S12x2048x64x128 .f32) :
    Host.reduce FloatOps.maximumf y (val_main_cst_6 (F := Ideal)) reducesTo_S12x2048x64x128_S12x2048x64_d3 h_S_ (ix3 p q n)
      = Finset.univ.fold max (Ideal.ofBits .f32 0xFF800000#32) fun l => y (ix4 p q n l) := by
  pointwise [val_main_cst_6]

/-- Zero, as the reference's constants hold it. -/
theorem ofBits_zero : FloatOps.ofBits (F := Ideal) .f32 0x00000000#32 = (0 : EReal) := by
  pointwise

/-- The low end of a group: its least value, or zero if that is less. -/
theorem low_at : val_main_v26 (F := Ideal) X G B (ix3 p q n) = Row.low (Result.grp X G B p q n) := by
  rw [val_main_v26_apply, val_main_v25_apply, val_main_cst_5_apply, ofBits_zero, val_main_v24, reduceMin_at]
  simp only [group_at]; rfl

/-- The high end of a group: its greatest value, or zero if that is greater. -/
theorem high_at : val_main_v29 (F := Ideal) X G B (ix3 p q n) = Row.high (Result.grp X G B p q n) := by
  rw [val_main_v29_apply, val_main_v28_apply, val_main_cst_7_apply, ofBits_zero, val_main_v27, reduceMax_at]
  simp only [group_at]; rfl

/-- The step of a group: its range over 255. -/
theorem step_at : val_main_v32 (F := Ideal) X G B (ix3 p q n) = Row.step (Result.grp X G B p q n) := by
  rw [val_main_v32_apply, val_main_v30_apply, val_main_v31_apply, val_main_cst_8_apply, low_at, high_at]
  show Ideal.div _ (Ideal.ofBits .f32 0x437F0000#32) = _
  rw [Row.ofBits_255]; rfl

/-- One, as the reference's constants hold it. -/
theorem ofBits_one : FloatOps.ofBits (F := Ideal) .f32 0x3F800000#32 = (1 : EReal) := by
  pointwise

/-- Choosing on the comparison of `s` with zero. -/
theorem select_pos (s o : EReal) :
    Scalar.select (FloatOps.cmpf (F := Ideal) (φ := .f32) .ogt s (0 : EReal)) s o = if 0 < s then s else o := by
  pointwise

/-- The scale of a group. -/
theorem scale_at : val_main_v35 (F := Ideal) X G B (ix3 p q n) = Row.scale (Result.grp X G B p q n) := by
  rw [val_main_v35_apply, val_main_v34_apply, val_main_v33_apply, val_main_cst_9_apply, val_main_call0_v1_apply,
    val_main_call0_v0_apply, val_main_cst_10_apply, step_at, ofBits_zero, ofBits_one]
  exact select_pos _ _

/-- The zero point of a group, before it becomes an integer. -/
theorem zeroFloat_at : val_main_v38 (F := Ideal) X G B (ix3 p q n) = Row.zero (Result.grp X G B p q n) := by
  rw [val_main_v38_apply, val_main_v37_apply, val_main_v36_apply, low_at, scale_at, Row.zero, zero_sub]; rfl

/-- The zero point of a group, as an integer. -/
theorem zero_at : val_main_v39 (F := Ideal) X G B (ix3 p q n) = Ideal.fptosi 32 (Row.zero (Result.grp X G B p q n)) := by
  rw [val_main_v39_apply, zeroFloat_at]; rfl

/-- The integer zero point of a group, as a float again. -/
theorem zeroBack_at : val_main_v44 (F := Ideal) X G B (ix3 p q n) = Row.zero (Result.grp X G B p q n) := by
  rw [val_main_v44_apply, zero_at]
  exact Row.zero_roundtrip _

/-! ## The codes and their sums -/

/-- A value that the reference repeats along the 128 lanes of its group. -/
theorem lanes_at (y : FVec Ideal S12x2048x64 .f32) :
    broadcastInDim S12x2048x64x128 ![0, 1, 2, 3] bcast_S12x2048x64x1_S12x2048x64x128_0_1_2_3
      (broadcastInDim S12x2048x64x1 ![0, 1, 2] bcast_S12x2048x64_S12x2048x64x1_0_1_2 y) (ix4 p q n l) = y (ix3 p q n) := by
  pointwise

/-- The levels. -/
theorem level_at : val_main_v48 (F := Ideal) X G B (ix4 p q n l) = Row.level (Result.grp X G B p q n) l := by
  rw [val_main_v48_apply, val_main_call3_v4_apply, val_main_call3_v3_apply, val_main_cst_12_apply, val_main_call3_v2_apply,
    val_main_call3_v1_apply, val_main_call3_v0_apply, val_main_cst_11_apply, val_main_v47_apply, val_main_v43_apply,
    val_main_v42_apply, group_at, ofBits_zero]
  unfold val_main_v41 val_main_v40 val_main_v46 val_main_v45
  rw [lanes_at, lanes_at, scale_at, zeroBack_at]
  show min (Ideal.ofBits .f32 0x437F0000#32) _ = _
  rw [Row.ofBits_255]; rfl

/-- The codes, by group and lane. -/
theorem code_at : val_main_v50 (F := Ideal) X G B (ix4 p q n l) = Row.code (Result.grp X G B p q n) l := by
  rw [val_main_v50_apply, val_main_v49_apply, level_at]; rfl

/-- The first result: the codes. -/
theorem result_code (i : Fin 24576) : val_main_v56 (F := Ideal) X G B (ix2 i k) = Result.code X G B i k := by
  unfold val_main_v56 val_main_v52_0 val_main_v51
  generalize hy : val_main_v50 (F := Ideal) X G B = y
  have h : shapeCast S24576x8192 (shapeCast S12x2048x8192 y shapeCasts_S12x2048x64x128_S12x2048x8192)
      shapeCasts_S12x2048x8192_S24576x8192 (ix2 i k)
      = y (ix4 (Result.outer i) (Result.inner i) ⟨k.val / 128, by omega⟩ ⟨k.val % 128, by omega⟩) := by
    pointwise
    rfl
  refine h.trans ?_
  rw [← hy, code_at]; rfl

/-- The second result: the scales. -/
theorem result_scale (i : Fin 24576) : val_main_v57 (F := Ideal) X G B (ix2 i n) = Result.scale X G B i n := by
  unfold val_main_v57 val_main_v52_1
  generalize hy : val_main_v35 (F := Ideal) X G B = y
  have h : shapeCast S24576x64 y shapeCasts_S12x2048x64_S24576x64 (ix2 i n)
      = y (ix3 (Result.outer i) (Result.inner i) n) := by
    pointwise
    rfl
  refine h.trans ?_
  rw [← hy, scale_at]; rfl

/-- The third result: the zero points. -/
theorem result_zero (i : Fin 24576) : val_main_v58 (F := Ideal) X G B (ix2 i n) = Result.zero X G B i n := by
  unfold val_main_v58 val_main_v52_2
  generalize hy : val_main_v39 (F := Ideal) X G B = y
  have h : shapeCast S24576x64 y shapeCasts_S12x2048x64_S24576x64 (ix2 i n)
      = y (ix3 (Result.outer i) (Result.inner i) n) := by
    pointwise
    rfl
  refine h.trans ?_
  rw [← hy, zero_at]; rfl

/-- The fourth result: the sums of the codes of each half-group. -/
theorem result_sum (i : Fin 24576) (h : Fin 128) : val_main_v59 (F := Ideal) X G B (ix2 i h) = Result.sum X G B i h := by
  unfold val_main_v59 val_main_v55 val_main_v54 val_main_v53 val_main_v52_0 val_main_v51
  generalize hy : val_main_v50 (F := Ideal) X G B = y
  have e : shapeCast S24576x128 (Host.reduce IntOp.addi (extui 32 (shapeCast S12x2048x128x64
        (shapeCast S12x2048x8192 y shapeCasts_S12x2048x64x128_S12x2048x8192) shapeCasts_S12x2048x8192_S12x2048x128x64)
        natLt_8_32) (val_main_c (F := Ideal)) reducesTo_S12x2048x128x64_S12x2048x128_d3 h_S_)
      shapeCasts_S12x2048x128_S24576x128 (ix2 i h)
      = Finset.univ.fold IntOp.addi (0#32) fun k : Fin 64 => (y (ix4 (Result.outer i) (Result.inner i)
          ⟨h.val / 2, by omega⟩ (Row.lane ⟨h.val % 2, by omega⟩ k))).setWidth 32 := by
    pointwise [val_main_c]
    rfl
  refine e.trans ?_
  rw [← hy]
  simp only [code_at]; rfl

end Cert.Reference

end
-- ==== Proof.Equation.lean ====
/- The equation: each result array of the reference is the kernel's, when both programs start from the same arguments. -/
module

public import proofs.«01_k».proof.Proof.Arrays
public import proofs.«01_k».proof.Proof.Reference

@[expose] public section

set_option maxRecDepth 16384

noncomputable section

namespace Cert.Equation

open Idealize.ShloMosaic Idealize.ShloMosaic.TcCoe Idealize.SL.Sem Cert.ReferenceIdeal.Read

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two programs' arguments on device `c` are equal. -/
def Agree : Prop :=
  m' ((c.tc : Thread Cert.ReferenceIdeal.nD Cert.ReferenceIdeal.τ).loc Cert.ReferenceIdeal.main_arg0) = Arrays.argX m c
    ∧ m' ((c.tc : Thread Cert.ReferenceIdeal.nD Cert.ReferenceIdeal.τ).loc Cert.ReferenceIdeal.main_arg1) = Arrays.argG m c
    ∧ m' ((c.tc : Thread Cert.ReferenceIdeal.nD Cert.ReferenceIdeal.τ).loc Cert.ReferenceIdeal.main_arg2) = Arrays.argB m c

variable {m m' c} (h : Agree m m' c)
include h

/-- The codes of the two programs are equal. -/
theorem code : Cert.ReferenceIdeal.Value.res_main_v56 m' c
    = (Cert.KernelIdeal.Gen.dats m 0 c).arrAt 3 Cert.KernelIdeal.cfg0.N := by
  rw [val_main_v56_eq m' c, h.1, h.2.1, h.2.2, Arrays.final_code]
  funext i
  exact (congrArg _ (eq_ix2 (n0 := 24576) (n1 := 8192) i)).trans (Reference.result_code _ _ _ (i 1) (i 0))

/-- The scales of the two programs are equal. -/
theorem scale : Cert.ReferenceIdeal.Value.res_main_v57 m' c
    = (Cert.KernelIdeal.Gen.dats m 0 c).arrAt 4 Cert.KernelIdeal.cfg0.N := by
  rw [val_main_v57_eq m' c, h.1, h.2.1, h.2.2, Arrays.final_scale]
  funext i
  exact (congrArg _ (eq_ix2 (n0 := 24576) (n1 := 64) i)).trans (Reference.result_scale _ _ _ (i 1) (i 0))

/-- The zero points of the two programs are equal. -/
theorem zero : Cert.ReferenceIdeal.Value.res_main_v58 m' c
    = (Cert.KernelIdeal.Gen.dats m 0 c).arrAt 5 Cert.KernelIdeal.cfg0.N := by
  rw [val_main_v58_eq m' c, h.1, h.2.1, h.2.2, Arrays.final_zero]
  funext i
  exact (congrArg _ (eq_ix2 (n0 := 24576) (n1 := 64) i)).trans (Reference.result_zero _ _ _ (i 1) (i 0))

/-- The half-group sums of the two programs are equal. -/
theorem sum : Cert.ReferenceIdeal.Value.res_main_v59 m' c
    = (Cert.KernelIdeal.Gen.dats m 0 c).arrAt 6 Cert.KernelIdeal.cfg0.N := by
  rw [val_main_v59_eq m' c, h.1, h.2.1, h.2.2, Arrays.final_sum]
  funext i
  exact (congrArg _ (eq_ix2 (n0 := 24576) (n1 := 128) i)).trans (Reference.result_sum _ _ _ (i 0) (i 1))

end Cert.Equation

end
-- ==== Proof.lean ====
/- The claim `Cert.Claim`, assembled: each program ends with its arguments unchanged and every semaphore at zero, the
   idealised kernel is the kernel read at the extended reals, and it returns what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

set_option maxRecDepth 16384

namespace Cert.Proof

open Idealize.ShloMosaic Idealize.SL.Sem Cert.Kernel

/-- The kernel ends with its arguments unchanged and every semaphore at zero. -/
theorem quiescent_kernel : Cert.quiescent_Kernel (hKernel := Cert.Kernel.Gen.facts) := fun m g _ =>
  Cert.Kernel.Gen.frame m g

/-- So does the idealised kernel. -/
theorem quiescent_kernelIdeal : Cert.quiescent_KernelIdeal (hKernelIdeal := Cert.KernelIdeal.Gen.facts) := fun m g _ =>
  Cert.KernelIdeal.Gen.frame m g

/-- So does the reference, which has no semaphores. -/
theorem quiescent_referenceIdeal : Cert.quiescent_ReferenceIdeal (hReferenceIdeal := Cert.ReferenceIdeal.Gen.facts) :=
  fun m g _ => (θ_run _ _ _).mono
    (fun r h => ⟨fun c => (h c).2.2.2.2, sem_eq_zero_of_no_sems (by decide) r.2⟩) (Cert.ReferenceIdeal.Value.run m g)

/-- The idealised kernel and the reference return the same codes, scales, zero points and half-group sums. -/
theorem algebraic : Cert.algebraic_KernelIdeal_ReferenceIdeal (hKernelIdeal := Cert.KernelIdeal.Gen.facts)
    (hReferenceIdeal := Cert.ReferenceIdeal.Gen.facts) := fun m g m' g' _ hagree =>
  ⟨_, _, _, _, Cert.KernelIdeal.Value.run_blocks m g, (θ_run _ _ _).mono
    (fun r h c => ⟨(h c).1.trans (Equation.code (hagree c)), (h c).2.1.trans (Equation.scale (hagree c)),
      (h c).2.2.1.trans (Equation.zero (hagree c)), (h c).2.2.2.1.trans (Equation.sum (hagree c)), (h c).2.2.2.2⟩)
    (Cert.ReferenceIdeal.Value.run m' g')⟩

/-- Everything the certificate claims. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
